-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_in_range [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_indices_in_range [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_indices_in_range [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_indices_in_range : Cert.Pre_indices_in_range.Facts),
    quiescent_Kernel (hKernel := hKernel)
    ∧ quiescent_KernelIdeal (hKernelIdeal := hKernelIdeal)
    ∧ quiescent_KernelIdeal_pre_indices_in_range (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ preserves_Kernel_KernelIdeal
    ∧ algebraic_KernelIdeal_ReferenceIdeal_pre_indices_in_range (hKernelIdeal := hKernelIdeal) (hReferenceIdeal := hReferenceIdeal) (hPre_indices_in_range := hPre_indices_in_range)
-- ==== Pre_indices_in_range.lean ====
abbrev S64x12x4096x3 : Shape := ⟨4, ![64, 12, 4096, 3]⟩
abbrev S288x128 : Shape := ⟨2, ![288, 128]⟩
abbrev S7x128 : Shape := ⟨2, ![7, 128]⟩
abbrev S_ : Shape := ⟨0, ![]⟩
abbrev S64x1x4096x1 : Shape := ⟨4, ![64, 1, 4096, 1]⟩
abbrev S64x4096 : Shape := ⟨2, ![64, 4096]⟩

class Facts : Prop where
  slices_S64x12x4096x3_S64x1x4096x1_0_11_0_1 : S64x12x4096x3.Slices ![0, 11, 0, 1] S64x1x4096x1
  shapeCasts_S64x1x4096x1_S64x4096 : S64x1x4096x1.ShapeCasts S64x4096
  bcast_S_S64x4096 : S_.BroadcastsInDim S64x4096 (![] : Fin 0 → Fin S64x4096.rank)
  slices_S64x12x4096x3_S64x1x4096x1_0_11_0_2 : S64x12x4096x3.Slices ![0, 11, 0, 2] S64x1x4096x1

variable [Facts]

def fn {F : FTy → Type} [FloatOps F] (main_arg0 : FVec F S64x12x4096x3 .f32) (main_arg1 : FVec F S288x128 .f32) (main_arg2 : FVec F S7x128 .f32) (main_arg3 : IVec S_ 32) : IVec S64x4096 1 :=
  let main_v0 : FVec F S64x1x4096x1 .f32 := (extractStridedSlice S64x1x4096x1 ![0, 11, 0, 1] · slices_S64x12x4096x3_S64x1x4096x1_0_11_0_1) main_arg0
  let main_v1 : FVec F S64x4096 .f32 := shapeCast S64x4096 main_v0 shapeCasts_S64x1x4096x1_S64x4096
  let main_v2 : FVec F S_ .f32 := sitofp .f32 main_arg3
  let main_v3 : FVec F S64x4096 .f32 := broadcastInDim S64x4096 ![] bcast_S_S64x4096 main_v2
  let main_v4 : FVec F S64x4096 .f32 := mulf main_v1 main_v3
  let main_v5 : IVec S64x4096 32 := fptosi 32 main_v4
  let main_v6 : FVec F S64x1x4096x1 .f32 := (extractStridedSlice S64x1x4096x1 ![0, 11, 0, 2] · slices_S64x12x4096x3_S64x1x4096x1_0_11_0_2) main_arg0
  let main_v7 : FVec F S64x4096 .f32 := shapeCast S64x4096 main_v6 shapeCasts_S64x1x4096x1_S64x4096
  let main_v8 : IVec S64x4096 32 := fptosi 32 main_v7
  let main_c : IVec S_ 32 := constantI S_ 32 0#32
  let main_v9 : IVec S64x4096 32 := broadcastInDim S64x4096 ![] bcast_S_S64x4096 main_c
  let main_v10 : IVec S64x4096 1 := cmpi .sge main_v5 main_v9
  let main_c_0 : IVec S_ 32 := constantI S_ 32 288#32
  let main_v11 : IVec S64x4096 32 := broadcastInDim S64x4096 ![] bcast_S_S64x4096 main_c_0
  let main_v12 : IVec S64x4096 1 := cmpi .slt main_v5 main_v11
  let main_v13 : IVec S64x4096 1 := andi main_v10 main_v12
  let main_c_1 : IVec S_ 32 := constantI S_ 32 0#32
  let main_v14 : IVec S64x4096 32 := broadcastInDim S64x4096 ![] bcast_S_S64x4096 main_c_1
  let main_v15 : IVec S64x4096 1 := cmpi .sge main_v8 main_v14
  let main_c_2 : IVec S_ 32 := constantI S_ 32 7#32
  let main_v16 : IVec S64x4096 32 := broadcastInDim S64x4096 ![] bcast_S_S64x4096 main_c_2
  let main_v17 : IVec S64x4096 1 := cmpi .slt main_v8 main_v16
  let main_v18 : IVec S64x4096 1 := andi main_v15 main_v17
  let main_v19 : IVec S64x4096 1 := andi main_v13 main_v18
  main_v19
-- ==== Kernel.lean ====
abbrev S64x12x4096x3 : Shape := ⟨4, ![64, 12, 4096, 3]⟩
abbrev S288x128 : Shape := ⟨2, ![288, 128]⟩
abbrev S7x128 : Shape := ⟨2, ![7, 128]⟩
abbrev S_ : Shape := ⟨0, ![]⟩
abbrev S1x128 : Shape := ⟨2, ![1, 128]⟩
abbrev S296x128 : Shape := ⟨2, ![296, 128]⟩
abbrev S128x296 : Shape := ⟨2, ![128, 296]⟩
abbrev S64x1x4096x1 : Shape := ⟨4, ![64, 1, 4096, 1]⟩
abbrev S64x4096 : Shape := ⟨2, ![64, 4096]⟩
abbrev S8x8x4096 : Shape := ⟨3, ![8, 8, 4096]⟩
abbrev S64x128x32x128 : Shape := ⟨4, ![64, 128, 32, 128]⟩
abbrev S1x8x4096 : Shape := ⟨3, ![1, 8, 4096]⟩
abbrev S8x128x32x128 : Shape := ⟨4, ![8, 128, 32, 128]⟩
abbrev S288x4096 : Shape := ⟨2, ![288, 4096]⟩
abbrev S8x4096 : Shape := ⟨2, ![8, 4096]⟩
abbrev S1x1x4096 : Shape := ⟨3, ![1, 1, 4096]⟩
abbrev S1x4096 : Shape := ⟨2, ![1, 4096]⟩
abbrev S296x4096 : Shape := ⟨2, ![296, 4096]⟩
abbrev S128x4096 : Shape := ⟨2, ![128, 4096]⟩
abbrev S128x32x128 : Shape := ⟨3, ![128, 32, 128]⟩
abbrev S1x128x32x128 : Shape := ⟨4, ![1, 128, 32, 128]⟩
abbrev S64x128x4096x1 : Shape := ⟨4, ![64, 128, 4096, 1]⟩

abbrev nBuf : Space → Nat
  | .hbm => 22
  | .vmem => 7
  | .smem => 0
  | _ => 0

abbrev bufTy : (tb : Table) → Fin (tcTables nBuf tb) → BufTy
  | .hbm, ⟨0, _⟩ => ⟨S64x12x4096x3, .f32⟩
  | .hbm, ⟨1, _⟩ => ⟨S288x128, .f32⟩
  | .hbm, ⟨2, _⟩ => ⟨S7x128, .f32⟩
  | .hbm, ⟨3, _⟩ => ⟨S_, .i32⟩
  | .hbm, ⟨4, _⟩ => ⟨S_, .f32⟩
  | .hbm, ⟨5, _⟩ => ⟨S1x128, .f32⟩
  | .hbm, ⟨6, _⟩ => ⟨S296x128, .f32⟩
  | .hbm, ⟨7, _⟩ => ⟨S128x296, .f32⟩
  | .hbm, ⟨8, _⟩ => ⟨S128x296, .bf16⟩
  | .hbm, ⟨9, _⟩ => ⟨S64x1x4096x1, .f32⟩
  | .hbm, ⟨10, _⟩ => ⟨S64x4096, .f32⟩
  | .hbm, ⟨11, _⟩ => ⟨S_, .f32⟩
  | .hbm, ⟨12, _⟩ => ⟨S64x4096, .f32⟩
  | .hbm, ⟨13, _⟩ => ⟨S64x4096, .f32⟩
  | .hbm, ⟨14, _⟩ => ⟨S64x4096, .i32⟩
  | .hbm, ⟨15, _⟩ => ⟨S8x8x4096, .i32⟩
  | .hbm, ⟨16, _⟩ => ⟨S64x1x4096x1, .f32⟩
  | .hbm, ⟨17, _⟩ => ⟨S64x4096, .f32⟩
  | .hbm, ⟨18, _⟩ => ⟨S64x4096, .i32⟩
  | .hbm, ⟨19, _⟩ => ⟨S8x8x4096, .i32⟩
  | .hbm, ⟨20, _⟩ => ⟨S64x128x32x128, .f32⟩
  | .hbm, ⟨21, _⟩ => ⟨S64x128x4096x1, .f32⟩
  | .local _ .vmem, ⟨0, _⟩ => ⟨S1x8x4096, .i32⟩
  | .local _ .vmem, ⟨1, _⟩ => ⟨S1x8x4096, .i32⟩
  | .local _ .vmem, ⟨2, _⟩ => ⟨S1x8x4096, .i32⟩
  | .local _ .vmem, ⟨3, _⟩ => ⟨S1x8x4096, .i32⟩
  | .local _ .vmem, ⟨4, _⟩ => ⟨S128x296, .bf16⟩
  | .local _ .vmem, ⟨5, _⟩ => ⟨S8x128x32x128, .f32⟩
  | .local _ .vmem, ⟨6, _⟩ => ⟨S8x128x32x128, .f32⟩
  | _, _ => ⟨S64x12x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x296 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x128x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S64x12x4096x3 : Shape := ⟨4, ![64, 12, 4096, 3]⟩
abbrev S288x128 : Shape := ⟨2, ![288, 128]⟩
abbrev S7x128 : Shape := ⟨2, ![7, 128]⟩
abbrev S_ : Shape := ⟨0, ![]⟩
abbrev S64x12x4096x1 : Shape := ⟨4, ![64, 12, 4096, 1]⟩
abbrev S64x12x4096 : Shape := ⟨3, ![64, 12, 4096]⟩
abbrev S64x1x4096 : Shape := ⟨3, ![64, 1, 4096]⟩
abbrev S64x4096 : Shape := ⟨2, ![64, 4096]⟩
abbrev S64x4096x1 : Shape := ⟨3, ![64, 4096, 1]⟩
abbrev S1 : Shape := ⟨1, ![1]⟩
abbrev S1x1x1 : Shape := ⟨3, ![1, 1, 1]⟩
abbrev S64x4096x128 : Shape := ⟨3, ![64, 4096, 128]⟩
abbrev S64x128x4096 : Shape := ⟨3, ![64, 128, 4096]⟩
abbrev S64x128x4096x1 : Shape := ⟨4, ![64, 128, 4096, 1]⟩

abbrev nBuf : Space → Nat
  | .hbm => 68
  | .vmem => 0
  | .smem => 0
  | _ => 0

abbrev bufTy : (tb : Table) → Fin (tcTables nBuf tb) → BufTy
  | .hbm, ⟨0, _⟩ => ⟨S64x12x4096x3, .f32⟩
  | .hbm, ⟨1, _⟩ => ⟨S288x128, .f32⟩
  | .hbm, ⟨2, _⟩ => ⟨S7x128, .f32⟩
  | .hbm, ⟨3, _⟩ => ⟨S_, .i32⟩
  | .hbm, ⟨4, _⟩ => ⟨S64x12x4096x1, .f32⟩
  | .hbm, ⟨5, _⟩ => ⟨S64x12x4096, .f32⟩
  | .hbm, ⟨6, _⟩ => ⟨S64x1x4096, .f32⟩
  | .hbm, ⟨7, _⟩ => ⟨S64x4096, .f32⟩
  | .hbm, ⟨8, _⟩ => ⟨S_, .f32⟩
  | .hbm, ⟨9, _⟩ => ⟨S64x4096, .f32⟩
  | .hbm, ⟨10, _⟩ => ⟨S64x4096, .f32⟩
  | .hbm, ⟨11, _⟩ => ⟨S64x4096, .i32⟩
  | .hbm, ⟨12, _⟩ => ⟨S_, .i32⟩
  | .hbm, ⟨13, _⟩ => ⟨S64x4096, .i32⟩
  | .hbm, ⟨14, _⟩ => ⟨S64x4096, .i1⟩
  | .hbm, ⟨15, _⟩ => ⟨S_, .i32⟩
  | .hbm, ⟨16, _⟩ => ⟨S64x4096, .i32⟩
  | .hbm, ⟨17, _⟩ => ⟨S64x4096, .i32⟩
  | .hbm, ⟨18, _⟩ => ⟨S64x4096, .i32⟩
  | .hbm, ⟨19, _⟩ => ⟨S64x4096x1, .i32⟩
  | .hbm, ⟨20, _⟩ => ⟨S1, .i32⟩
  | .hbm, ⟨21, _⟩ => ⟨S_, .i32⟩
  | .hbm, ⟨22, _⟩ => ⟨S64x4096x1, .i32⟩
  | .hbm, ⟨23, _⟩ => ⟨S64x4096x1, .i1⟩
  | .hbm, ⟨24, _⟩ => ⟨S1x1x1, .i32⟩
  | .hbm, ⟨25, _⟩ => ⟨S64x4096x1, .i32⟩
  | .hbm, ⟨26, _⟩ => ⟨S64x4096x1, .i1⟩
  | .hbm, ⟨27, _⟩ => ⟨S64x4096x1, .i1⟩
  | .hbm, ⟨28, _⟩ => ⟨S_, .i1⟩
  | .hbm, ⟨29, _⟩ => ⟨S64x4096, .i1⟩
  | .hbm, ⟨30, _⟩ => ⟨S64x4096x128, .f32⟩
  | .hbm, ⟨31, _⟩ => ⟨S64x4096x128, .i1⟩
  | .hbm, ⟨32, _⟩ => ⟨S_, .f32⟩
  | .hbm, ⟨33, _⟩ => ⟨S64x4096x128, .f32⟩
  | .hbm, ⟨34, _⟩ => ⟨S64x4096x128, .f32⟩
  | .hbm, ⟨35, _⟩ => ⟨S64x128x4096, .f32⟩
  | .hbm, ⟨36, _⟩ => ⟨S64x128x4096x1, .f32⟩
  | .hbm, ⟨37, _⟩ => ⟨S64x12x4096x1, .f32⟩
  | .hbm, ⟨38, _⟩ => ⟨S64x12x4096, .f32⟩
  | .hbm, ⟨39, _⟩ => ⟨S64x1x4096, .f32⟩
  | .hbm, ⟨40, _⟩ => ⟨S64x4096, .f32⟩
  | .hbm, ⟨41, _⟩ => ⟨S64x4096, .i32⟩
  | .hbm, ⟨42, _⟩ => ⟨S_, .i32⟩
  | .hbm, ⟨43, _⟩ => ⟨S64x4096, .i32⟩
  | .hbm, ⟨44, _⟩ => ⟨S64x4096, .i1⟩
  | .hbm, ⟨45, _⟩ => ⟨S_, .i32⟩
  | .hbm, ⟨46, _⟩ => ⟨S64x4096, .i32⟩
  | .hbm, ⟨47, _⟩ => ⟨S64x4096, .i32⟩
  | .hbm, ⟨48, _⟩ => ⟨S64x4096, .i32⟩
  | .hbm, ⟨49, _⟩ => ⟨S64x4096x1, .i32⟩
  | .hbm, ⟨50, _⟩ => ⟨S1, .i32⟩
  | .hbm, ⟨51, _⟩ => ⟨S_, .i32⟩
  | .hbm, ⟨52, _⟩ => ⟨S64x4096x1, .i32⟩
  | .hbm, ⟨53, _⟩ => ⟨S64x4096x1, .i1⟩
  | .hbm, ⟨54, _⟩ => ⟨S1x1x1, .i32⟩
  | .hbm, ⟨55, _⟩ => ⟨S64x4096x1, .i32⟩
  | .hbm, ⟨56, _⟩ => ⟨S64x4096x1, .i1⟩
  | .hbm, ⟨57, _⟩ => ⟨S64x4096x1, .i1⟩
  | .hbm, ⟨58, _⟩ => ⟨S_, .i1⟩
  | .hbm, ⟨59, _⟩ => ⟨S64x4096, .i1⟩
  | .hbm, ⟨60, _⟩ => ⟨S64x4096x128, .f32⟩
  | .hbm, ⟨61, _⟩ => ⟨S64x4096x128, .i1⟩
  | .hbm, ⟨62, _⟩ => ⟨S_, .f32⟩
  | .hbm, ⟨63, _⟩ => ⟨S64x4096x128, .f32⟩
  | .hbm, ⟨64, _⟩ => ⟨S64x4096x128, .f32⟩
  | .hbm, ⟨65, _⟩ => ⟨S64x128x4096, .f32⟩
  | .hbm, ⟨66, _⟩ => ⟨S64x128x4096x1, .f32⟩
  | .hbm, ⟨67, _⟩ => ⟨S64x128x4096x1, .f32⟩
  | _, _ => ⟨S64x12x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩

abbrev nD : Nat := 1
abbrev τ : Topo := Topo.v7x

variable {F : FTy → Type} [FloatOps F]
-- ==== Proof.Block.lean ====
/- What the kernel's body computes for one batch row: the product of the transposed table with the stacked one-hot
   matrix, read at an index. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Block

open Cert.KernelIdeal Cert.KernelIdeal.Gen

/-- A sum against a one-hot column keeps the one entry the column's index names. -/
theorem sum_one_hot {n : ℕ} (hn : n ≤ 4294967296) (g : Fin n → EReal) (v : BitVec 32) (hv : v.toNat < n) :
    (∑ k : Fin n, g k * (FloatOps.sitofp FTy.f32
        (BitVec.setWidth 32 (IntOp.cmpi CmpIPredicate.eq (BitVec.ofNat 32 (k : ℕ)) v)) : Ideal .f32) : EReal)
      = g ⟨v.toNat, hv⟩ := by
  rw [Finset.sum_eq_single ⟨v.toNat, hv⟩]
  · have h : IntOp.cmpi CmpIPredicate.eq (BitVec.ofNat 32 v.toNat) v = 1#1 := by
      simp [IntOp.cmpi]
    rw [h]
    have h1 : (FloatOps.sitofp FTy.f32 (BitVec.setWidth 32 1#1) : Ideal .f32) = (1 : EReal) := by
      show (((BitVec.setWidth 32 1#1).toInt : ℝ) : EReal) = 1
      norm_num
    rw [h1, mul_one]
  · intro k _ hk
    have hne : BitVec.ofNat 32 (k : ℕ) ≠ v := fun e => hk (Fin.ext (by
      have := congrArg BitVec.toNat e
      rw [BitVec.toNat_ofNat, Nat.mod_eq_of_lt (by omega)] at this
      exact this))
    have h : IntOp.cmpi CmpIPredicate.eq (BitVec.ofNat 32 (k : ℕ)) v = 0#1 := by
      have hb : (BitVec.ofNat 32 (k : ℕ) == v) = false := beq_eq_false_iff_ne.mpr hne
      simp [IntOp.cmpi, hb]
    rw [h]
    have h0 : (FloatOps.sitofp FTy.f32 (BitVec.setWidth 32 0#1) : Ideal .f32) = (0 : EReal) := by
      show (((BitVec.setWidth 32 0#1).toInt : ℝ) : EReal) = 0
      norm_num
    rw [h0, mul_zero]
  · intro h
    exact absurd (Finset.mem_univ _) h

/-- One row of the body, read at an index `x` whose column has day index `dv` below 288 and week index `wv` below 8:
    the table's entries in columns `dv` and `288 + wv`, added. -/
theorem row_apply (d w : Vec Ideal S1x1x4096 .i32) (T : Vec Ideal S128x296 .bf16) (x : S1x128x32x128.Idx) (f : Fin 128)
    (n : Fin 4096) (dv wv : BitVec 32) (hf : (x 1 : ℕ) = f) (hn : (n : ℕ) = (x 2 : ℕ) * 128 + (x 3 : ℕ))
    (hd : d (ix3 0 0 n) = dv) (hw : w (ix3 0 0 n) = wv) (hdr : dv.toNat < 288) (hwr : wv.toNat < 8) :
    k0_pay3 (F := Ideal) d w T x
      = T (ix2 f ⟨dv.toNat, by omega⟩) + T (ix2 f ⟨288 + wv.toNat, by omega⟩) := by
  obtain rfl : x 1 = f := Fin.ext hf
  have hn' : (⟨(x 2 : ℕ) * 128 + (x 3 : ℕ), by omega⟩ : Fin 4096) = n := Fin.ext hn.symm
  rw [← sum_one_hot (n := 288) (by omega) (fun k => T (ix2 (x 1) ⟨k, by omega⟩)) _ hdr,
    ← sum_one_hot (n := 8) (by omega) (fun k => T (ix2 (x 1) ⟨288 + k, by omega⟩)) _ hwr]
  pointwise [k0_pay3]
  simp only [hn', hd, hw]

/-- THE BLOCK the body leaves, read at an index: batch row `y 0`'s column `n` of the two index blocks names the two
    columns of the table that are added. -/
theorem out_apply (x0 x1 : Vec Ideal S1x8x4096 .i32) (T : Vec Ideal S128x296 .bf16) (y : S8x128x32x128.Idx)
    (f : Fin 128) (n : Fin 4096) (dv wv : BitVec 32) (hf : (y 1 : ℕ) = f) (hn : (n : ℕ) = (y 2 : ℕ) * 128 + (y 3 : ℕ))
    (hd : x0 (ix3 0 (y 0) n) = dv) (hw : x1 (ix3 0 (y 0) n) = wv) (hdr : dv.toNat < 288) (hwr : wv.toNat < 8) :
    out0_3 (F := Ideal) x0 x1 T y
      = T (ix2 f ⟨dv.toNat, by omega⟩) + T (ix2 f ⟨288 + wv.toNat, by omega⟩) := by
  have hT : View.ld T r0_1 = T := by
    funext i
    pointwise
  have hrow (d w : Vec Ideal S1x1x4096 .i32) (x : S1x128x32x128.Idx) (h1 : (y 1 : ℕ) = x 1)
      (h2 : (y 2 : ℕ) = x 2) (h3 : (y 3 : ℕ) = x 3) (hd' : d (ix3 0 0 n) = x0 (ix3 0 (y 0) n))
      (hw' : w (ix3 0 0 n) = x1 (ix3 0 (y 0) n)) :
      k0_pay3 (F := Ideal) d w (View.ld T r0_1) x
        = T (ix2 f ⟨dv.toNat, by omega⟩) + T (ix2 f ⟨288 + wv.toNat, by omega⟩) := by
    rw [hT]
    exact row_apply d w T x f n dv wv (h1.symm.trans hf) (by omega) (hd'.trans hd) (hw'.trans hw) hdr hwr
  canon_tiles x h
  case piece0 => refine hrow (View.ld x0 r0_15) (View.ld x1 r0_15) x h1 h2 h3 ?_ ?_ <;> (pointwise; blk_ext)
  case piece1 => refine hrow (View.ld x0 r0_13) (View.ld x1 r0_13) x h1 h2 h3 ?_ ?_ <;> (pointwise; blk_ext)
  case piece2 => refine hrow (View.ld x0 r0_11) (View.ld x1 r0_11) x h1 h2 h3 ?_ ?_ <;> (pointwise; blk_ext)
  case piece3 => refine hrow (View.ld x0 r0_9) (View.ld x1 r0_9) x h1 h2 h3 ?_ ?_ <;> (pointwise; blk_ext)
  case piece4 => refine hrow (View.ld x0 r0_7) (View.ld x1 r0_7) x h1 h2 h3 ?_ ?_ <;> (pointwise; blk_ext)
  case piece5 => refine hrow (View.ld x0 r0_5) (View.ld x1 r0_5) x h1 h2 h3 ?_ ?_ <;> (pointwise; blk_ext)
  case piece6 => refine hrow (View.ld x0 r0_3) (View.ld x1 r0_3) x h1 h2 h3 ?_ ?_ <;> (pointwise; blk_ext)
  case piece7 => refine hrow (View.ld x0 r0_0) (View.ld x1 r0_0) x h1 h2 h3 ?_ ?_ <;> (pointwise; blk_ext)

end Cert.KernelIdeal.Block

end
-- ==== Proof.Spec.lean ====
/- The embedding both programs compute: for a batch entry `b`, a feature `f` and a node `n`, the day table's row for the
   node's time of day plus the week table's row for its day of week. -/
module

public import Idealize.ShloMosaic.PureOps
public import Idealize.ShloMosaic.Lib.Pointwise

@[expose] public section

noncomputable section

open Idealize.ShloMosaic

namespace Cert.Embedding

/-- The shape of the input: batch, step, node, channel. -/
abbrev SX : Shape := ⟨4, ![64, 12, 4096, 3]⟩
/-- The shape of the day table. -/
abbrev SDay : Shape := ⟨2, ![288, 128]⟩
/-- The shape of the week table. -/
abbrev SWeek : Shape := ⟨2, ![7, 128]⟩
/-- The shape of the number of time slots per day. -/
abbrev STime : Shape := ⟨0, ![]⟩

/-- The time-of-day index of node `n` of batch entry `b`: channel 1 at the last step times the number of slots, converted
    to an integer. -/
def day (x : FVec Ideal SX .f32) (time : IVec STime 32) (b : Fin 64) (n : Fin 4096) : BitVec 32 :=
  FloatOps.fptosi (F := Ideal) 32 (FloatOps.mulf (x (ix4 b 11 n 1)) (FloatOps.sitofp .f32 (time ix0)))

/-- The day-of-week index of node `n` of batch entry `b`: channel 2 at the last step, converted to an integer. -/
def week (x : FVec Ideal SX .f32) (b : Fin 64) (n : Fin 4096) : BitVec 32 :=
  FloatOps.fptosi (F := Ideal) 32 (x (ix4 b 11 n 2))

/-- Every index names a row of its table. -/
def InRange (x : FVec Ideal SX .f32) (time : IVec STime 32) : Prop :=
  ∀ b n, (day x time b n).toNat < 288 ∧ (week x b n).toNat < 7

/-- The embedding at batch entry `b`, feature `f`, node `n`: the two rows the indices name (the last row for an index past
    the end, which no index in range is), added at feature `f`. -/
def emb (x : FVec Ideal SX .f32) (td : FVec Ideal SDay .f32) (tw : FVec Ideal SWeek .f32) (time : IVec STime 32)
    (b : Fin 64) (f : Fin 128) (n : Fin 4096) : EReal :=
  td (ix2 ⟨min (day x time b n).toNat 287, by omega⟩ f) + tw (ix2 ⟨min (week x b n).toNat 6, by omega⟩ f)

end Cert.Embedding

end
-- ==== Proof.KernelValue.lean ====
/- The kernel's result: what the host lines before the region hand it, read at an index, and the output array after the
   region. -/
module

public import proofs.«01_k».proof.Proof.Block
public import proofs.«01_k».proof.Proof.Spec
public import Idealize.ShloMosaic.Lib.Claim

@[expose] public section

set_option maxRecDepth 16384

noncomputable section

open Idealize.ShloMosaic Idealize.ShloMosaic.TcCoe Idealize.SL.Sem

namespace Cert.KernelIdeal.Block

open Cert.KernelIdeal Cert.KernelIdeal.Gen Cert.Embedding

variable (m : (ℓ : Loc nD τ sig) → Buf (Elt Ideal) ℓ)

/-- The input array of a device. -/
abbrev argX (c : Dev nD) : FVec Ideal SX .f32 := m ((c : Thread nD τ).loc main_arg0)
/-- The day table of a device. -/
abbrev argDay (c : Dev nD) : FVec Ideal SDay .f32 := m ((c : Thread nD τ).loc main_arg1)
/-- The week table of a device. -/
abbrev argWeek (c : Dev nD) : FVec Ideal SWeek .f32 := m ((c : Thread nD τ).loc main_arg2)
/-- The number of time slots of a device. -/
abbrev argTime (c : Dev nD) : IVec STime 32 := m ((c : Thread nD τ).loc main_arg3)

/-- The region finds the day indices, eight batch entries to a row. -/
theorem entry_day (c : Dev nD) (t j : Fin 8) (n : Fin 4096) (b : Fin 64) (hb : (b : ℕ) = t * 8 + j) :
    V m c main_v10 (ix3 t j n) = day (argX m c) (argTime m c) b n := by
  show StableHlo.after hostOps0 (fun b => m (c, b)) (Proc.devRef .tc main_v10) (ix3 t j n) = _
  entry_read
  pointwise [day, argX, argTime]
  have e : (⟨t * 8 + j, by omega⟩ : Fin 64) = b := Fin.ext hb.symm
  rw [e]

/-- The region finds the week indices, eight batch entries to a row. -/
theorem entry_week (c : Dev nD) (t j : Fin 8) (n : Fin 4096) (b : Fin 64) (hb : (b : ℕ) = t * 8 + j) :
    V m c main_v14 (ix3 t j n) = week (argX m c) b n := by
  show StableHlo.after hostOps0 (fun b => m (c, b)) (Proc.devRef .tc main_v14) (ix3 t j n) = _
  entry_read
  pointwise [week, argX]
  have e : (⟨t * 8 + j, by omega⟩ : Fin 64) = b := Fin.ext hb.symm
  rw [e]

/-- The first two host operations: the constant and the zero row made of it. -/
abbrev zeroOps : List (HloOp τ sig (Elt Ideal)) :=
  [StableHlo.nullary main_cst (constant (F := Ideal) S_ .f32 0x00000000#32),
    StableHlo.unary main_cst main_v0 (broadcastInDim S1x128 ![] bcast_S_S1x128 : (⟨S_, .f32⟩ : BufTy).Contents (Elt Ideal) → (⟨S1x128, .f32⟩ : BufTy).Contents (Elt Ideal))]

/-- The table: the day table, the week table and a further row `z` stacked and transposed, in the narrower format. -/
def table (td : FVec Ideal S288x128 .f32) (tw : FVec Ideal S7x128 .f32) (z : FVec Ideal S1x128 .f32) : FVec Ideal S128x296 .bf16 :=
  truncf .bf16 (transpose S128x296 [1, 0] (concatenate S296x128 0 [⟨S288x128, td⟩, ⟨S7x128, tw⟩, ⟨S1x128, z⟩]
    concatenates_S288x128_S7x128_S1x128_S296x128_d0) transposes_S296x128_S128x296_1_0) bitsLt_bf16_f32

/-- The region finds the table of the two argument tables. -/
theorem entry_table (c : Dev nD) : ∃ z, V m c main_v3 = table (argDay m c) (argWeek m c) z := by
  refine ⟨StableHlo.after zeroOps (fun b => m (c, b)) (Proc.devRef .tc main_v0), ?_⟩
  have h1 : StableHlo.after zeroOps (fun b => m (c, b)) (Proc.devRef .tc main_arg1) = argDay m c := by
    simp only [StableHlo.after_cons, StableHlo.after_nil]
    after_results_steps
  have h2 : StableHlo.after zeroOps (fun b => m (c, b)) (Proc.devRef .tc main_arg2) = argWeek m c := by
    simp only [StableHlo.after_cons, StableHlo.after_nil]
    after_results_steps
  rw [← h1, ← h2]
  show StableHlo.after hostOps0 (fun b => m (c, b)) (Proc.devRef .tc main_v3) = _
  simp only [StableHlo.after_cons, StableHlo.after_nil]
  after_results_steps
  rfl

/-- The first 288 columns of the table are the day table's rows. -/
theorem table_day (td : FVec Ideal S288x128 .f32) (tw : FVec Ideal S7x128 .f32) (z : FVec Ideal S1x128 .f32) (f : Fin 128)
    (k : Fin 296) (r : Fin 288) (hr : (k : ℕ) = r) : table td tw z (ix2 f k) = td (ix2 r f) := by
  have hk : (k : ℕ) < 288 := hr ▸ r.isLt
  pointwise [table, hk]
  have e : (⟨k, hk⟩ : Fin 288) = r := Fin.ext hr
  rw [e]

/-- The next 7 columns of the table are the week table's rows. -/
theorem table_week (td : FVec Ideal S288x128 .f32) (tw : FVec Ideal S7x128 .f32) (z : FVec Ideal S1x128 .f32) (f : Fin 128)
    (k : Fin 296) (r : Fin 7) (hr : (k : ℕ) = 288 + r) : table td tw z (ix2 f k) = tw (ix2 r f) := by
  pointwise [table]
  rw [dif_neg (by omega), dif_pos (by omega)]
  have e : (⟨k - 288, by omega⟩ : Fin 7) = r := Fin.ext (by simp only [hr]; omega)
  rw [e]

/-- The windows' block indices at every grid point. -/
theorem idx : ∀ t : Fin cfg0.N, win0_0.index t = ![t.val, 0, 0] ∧ win0_1.index t = ![t.val, 0, 0]
    ∧ win0_2.index t = ![0, 0] ∧ win0_3.index t = ![t.val, 0, 0, 0] :=
  (by decide +kernel : ∀ t : Fin grid0.N, _)

/-- A grid point's block of day indices, read at an index. -/
theorem block_day (c : Dev nD) (t : Fin cfg0.N) (j : Fin 8) (n : Fin 4096) (b : Fin 64) (hb : (b : ℕ) = t.val * 8 + j) :
    iblk m c 0 t (ix3 0 j n) = day (argX m c) (argTime m c) b n := by
  have ht : t.val < 8 := lt_of_lt_of_eq t.isLt N_0
  rw [← entry_day m c ⟨t.val, ht⟩ j n b hb]
  blk_ext [iblk, idx t]

/-- A grid point's block of week indices, read at an index. -/
theorem block_week (c : Dev nD) (t : Fin cfg0.N) (j : Fin 8) (n : Fin 4096) (b : Fin 64) (hb : (b : ℕ) = t.val * 8 + j) :
    iblk m c 1 t (ix3 0 j n) = week (argX m c) b n := by
  have ht : t.val < 8 := lt_of_lt_of_eq t.isLt N_0
  rw [← entry_week m c ⟨t.val, ht⟩ j n b hb]
  blk_ext [iblk, idx t]

/-- Every grid point's table block is the whole table. -/
theorem block_table (c : Dev nD) (t : Fin cfg0.N) (f : Fin 128) (k : Fin 296) :
    iblk m c 2 t (ix2 f k) = V m c main_v3 (ix2 f k) := by
  blk_ext [iblk, idx t]

/-- What the body leaves at block index `y` of grid point `t`: the embedding of batch entry `b`, feature `f`, node `n`. -/
theorem point (c : Dev nD) (h : InRange (argX m c) (argTime m c)) (t : Fin cfg0.N) (y : S8x128x32x128.Idx) (b : Fin 64)
    (f : Fin 128) (n : Fin 4096) (hb : (b : ℕ) = t.val * 8 + (y 0 : ℕ)) (hf : (y 1 : ℕ) = f)
    (hn : (n : ℕ) = (y 2 : ℕ) * 128 + (y 3 : ℕ)) :
    out0_3 (F := Ideal) (iblk m c 0 t) (iblk m c 1 t) (iblk m c 2 t) y
      = emb (argX m c) (argDay m c) (argWeek m c) (argTime m c) b f n := by
  obtain ⟨hd, hw⟩ := h b n
  obtain ⟨z, hz⟩ := entry_table m c
  rw [out_apply _ _ _ y f n _ _ hf hn (block_day m c t (y 0) n b hb) (block_week m c t (y 0) n b hb) hd (by omega),
    block_table, block_table, hz,
    table_day _ _ z f _ ⟨min (day (argX m c) (argTime m c) b n).toNat 287, by omega⟩ (by simp only; omega),
    table_week _ _ z f _ ⟨min (week (argX m c) b n).toNat 6, by omega⟩ (by simp only; omega)]
  rfl

/-- THE OUTPUT ARRAY after the region: the embedding, its node axis split in 32 rows of 128. -/
theorem final (c : Dev nD) (h : InRange (argX m c) (argTime m c)) : (dats m 0 c).arrAt 3 (cfgs 0).N
    = fun i : S64x128x32x128.Idx => emb (argX m c) (argDay m c) (argWeek m c) (argTime m c) (i 0) (i 1)
        ⟨(i 2 : ℕ) * 128 + (i 3 : ℕ), by have h2 : (i 2 : ℕ) < 32 := (i 2).isLt; have h3 : (i 3 : ℕ) < 128 := (i 3).isLt; omega⟩ := by
  refine (dats m 0 c).arrAt_eq_of_covers 3 _ (by decide +kernel) fun t hf y => ?_
  blk_simp [idx t]
  rw [after0_3]
  refine point m c h t y _ _ _ ?_ ?_ rfl <;> (blk_simp [idx t] <;> try omega)

/-- THE KERNEL'S RESULT, read at an index: the embedding. The reshape after the region joins the output array's two
    position axes and adds a unit axis. -/
theorem result (c : Dev nD) (h : InRange (argX m c) (argTime m c)) (b : Fin 64) (f : Fin 128) (n : Fin 4096) :
    Pipeline.afterTail₀ cfgs (dats m) 0 (V0 m) [hostOps1] c main_v16 (ix4 b f n 0)
      = emb (argX m c) (argDay m c) (argWeek m c) (argTime m c) b f n := by
  have e : Pipeline.withArrays spec0 c (V0 m c) (fun w => (dats m 0 c).arrAt w (cfgs 0).N) (Proc.devRef .tc main_v15)
      = (dats m 0 c).arrAt 3 (cfgs 0).N := Pipeline.withArrays_arr spec0 launch0.win.arr_inj c (V0 m c) _ 3
  have hv : Pipeline.afterTail₀ cfgs (dats m) 0 (V0 m) [hostOps1] c main_v16
      = shapeCast S64x128x4096x1 ((dats m 0 c).arrAt 3 (cfgs 0).N) shapeCasts_S64x128x32x128_S64x128x4096x1 := by
    rw [← e]
    rfl
  have hn : (n : ℕ) < 4096 := n.isLt
  rw [hv, final m c h, shapeCast_apply _ _ _
    (ix4 b f (⟨(n : ℕ) / 128, by omega⟩ : Fin 32) (⟨(n : ℕ) % 128, by omega⟩ : Fin 128))]
  · exact congrArg _ (Fin.ext (by show (n : ℕ) / 128 * 128 + (n : ℕ) % 128 = n; omega))
  · simp only [Shape.rowMajor_val_four]
    show (((b : ℕ) * 128 + (f : ℕ)) * 32 + (n : ℕ) / 128) * 128 + (n : ℕ) % 128
      = (((b : ℕ) * 128 + (f : ℕ)) * 4096 + (n : ℕ)) * 1 + 0
    omega

end Cert.KernelIdeal.Block

end
-- ==== Proof.Gather.lean ====
/- What the reference's row lookup is made of: the gather of a table's rows at a rank-2 array of row numbers, read at an
   index; the conjunction over an axis of a mask that holds everywhere; and the comparisons of an index with its bounds. -/
module

public import Idealize.ShloMosaic.PureOps
public import Idealize.ShloMosaic.Lib.Pointwise
public import Idealize.ShloMosaic.Lib.StableHlo.Predicate

@[expose] public section

set_option maxRecDepth 16384

noncomputable section

open Idealize.ShloMosaic

namespace Cert.Embedding

/-- The gather's dimension numbers for a table of `N` rows of 128: axis 0 of the table is the looked-up one, axis 2 of the
    result runs along the row. -/
abbrev rowDims (N : ℕ) (wf : GatherDims.WF ⟨2, ![N, 128]⟩ ⟨3, ![64, 4096, 1]⟩ ⟨3, ![64, 4096, 128]⟩ [2] [0] [] [0] [] 2 ![1, 128]) :
    GatherDims ⟨2, ![N, 128]⟩ ⟨3, ![64, 4096, 1]⟩ ⟨3, ![64, 4096, 128]⟩ where
  offsetDims := [2]
  collapsedSliceDims := [0]
  operandBatchingDims := []
  startIndicesBatchingDims := []
  startIndexMap := [0]
  indexVectorDim := 2
  sliceSizes := ![1, 128]
  wf := wf

/-- The gathered row at `(b, n, f)`: the table's row number `idx[b, n, 0]`, read signed and clamped to the table, at `f`. -/
theorem gather_row {α : Type} {N : ℕ} (hN : 0 < N)
    (wf : GatherDims.WF ⟨2, ![N, 128]⟩ ⟨3, ![64, 4096, 1]⟩ ⟨3, ![64, 4096, 128]⟩ [2] [0] [] [0] [] 2 ![1, 128])
    (x : (⟨2, ![N, 128]⟩ : Shape).Idx → α) (idx : IVec ⟨3, ![64, 4096, 1]⟩ 32) (b : Fin 64) (n : Fin 4096) (f : Fin 128) :
    Host.gather (rowDims N wf) x idx (ix3 b n f)
      = x (ix2 ⟨min (idx (ix3 b n 0)).toInt.toNat (N - 1), by omega⟩ f) := by
  unfold Host.gather
  congr 1
  funext a
  refine Fin.ext ?_
  show (rowDims N wf).start (ix3 b n f) idx a + (rowDims N wf).batchCoord (ix3 b n f) a
    + (rowDims N wf).offCoord (ix3 b n f) a = _
  have hbatch : (rowDims N wf).batchCoord (ix3 b n f) a = 0 := GatherDims.batchCoord_eq_zero _ _ _ List.not_mem_nil
  rw [hbatch, Nat.add_zero]
  match a with
  | ⟨0, _⟩ =>
    rw [GatherDims.offCoord_eq_zero _ _ _ (fun h => ((GatherDims.mem_sKept _ _).mp h).1 (List.mem_singleton.mpr rfl)),
      Nat.add_zero]
    unfold GatherDims.start
    refine (dif_pos (show (0 : Fin 2) ∈ (rowDims N wf).startIndexMap from List.mem_singleton.mpr rfl)).trans ?_
    have hsi : (rowDims N wf).siIdx (ix3 b n f) ⟨List.idxOf (0 : Fin 2) (rowDims N wf).startIndexMap,
        List.idxOf_lt_length_iff.2 (List.mem_singleton.mpr rfl)⟩ = ix3 b n 0 := by
      funext d
      refine Fin.ext ?_
      match d with
      | ⟨0, _⟩ => rfl
      | ⟨1, _⟩ => rfl
      | ⟨2, _⟩ => rfl
    exact congrArg (fun i => min (idx i).toInt.toNat (N - 1)) hsi
  | ⟨1, _⟩ =>
    have hstart : (rowDims N wf).start (ix3 b n f) idx (1 : Fin 2) = 0 := by
      unfold GatherDims.start
      exact dif_neg (show ¬((1 : Fin 2) ∈ ([0] : List (Fin 2))) by decide)
    exact (congrArg (· + _) hstart).trans (Nat.zero_add _)

/-- A conjunction of true bits, starting from true, is true. -/
theorem fold_and_true {ι : Type} (s : Finset ι) (g : ι → BitVec 1) (hg : ∀ i, g i = 1#1) :
    s.fold IntOp.andi 1#1 g = 1#1 := by
  classical
  induction s using Finset.induction_on with
  | empty => rfl
  | insert a s ha ih => rw [Finset.fold_insert ha, hg, ih]; rfl

/-- A word below 2³¹ is not negative. -/
theorem not_slt_zero {v : BitVec 32} (h : v.toNat < 2 ^ 31) : IntOp.cmpi CmpIPredicate.slt v 0#32 = 0#1 := by
  rcases BitVec.eq_zero_or_eq_one (IntOp.cmpi CmpIPredicate.slt v 0#32) with h0 | h1
  · exact h0
  · exact absurd ((Idealize.ShloMosaic.StableHlo.Predicate.slt_iff_toNat h (by decide)).mp h1) (Nat.not_lt_zero _)

/-- A word at most `hi` passes both halves of the bounds check. -/
theorem in_bounds (v hi : BitVec 32) (hhi : hi.toNat < 2 ^ 31) (h : v.toNat ≤ hi.toNat) :
    IntOp.andi (IntOp.cmpi CmpIPredicate.sge v 0#32) (IntOp.cmpi CmpIPredicate.sle v hi) = 1#1 := by
  rw [(Idealize.ShloMosaic.StableHlo.Predicate.sge_iff_toNat (by omega) (by decide)).mpr (Nat.zero_le _), (Idealize.ShloMosaic.StableHlo.Predicate.sle_iff_toNat (by omega) hhi).mpr h]
  rfl

/-- Both bits of a true conjunction are true. -/
theorem and_bits {p q : BitVec 1} (h : IntOp.andi p q = 1#1) : p = 1#1 ∧ q = 1#1 := by
  revert p q
  decide

/-- A word at least 0 and below `hi` as a signed integer is below `hi` as a natural number. -/
theorem lt_of_checks {v hi : BitVec 32} (hhi : hi.toNat < 2 ^ 31)
    (h : IntOp.andi (IntOp.cmpi CmpIPredicate.sge v 0#32) (IntOp.cmpi CmpIPredicate.slt v hi) = 1#1) : v.toNat < hi.toNat := by
  obtain ⟨h0, h1⟩ := and_bits h
  have h0' : 0 ≤ v.toInt := by
    simpa [IntOp.cmpi, BitVec.sle, Idealize.ShloMosaic.StableHlo.Predicate.ofBool_eq_one_iff] using h0
  have hv : v.toNat < 2 ^ 31 := by
    rw [BitVec.toInt_eq_msb_cond] at h0'
    by_contra hc
    have : v.msb = true := BitVec.msb_eq_true_iff_two_mul_ge.mpr (by omega)
    rw [this] at h0'
    have := v.isLt
    simp at h0'
    omega
  exact (Idealize.ShloMosaic.StableHlo.Predicate.slt_iff_toNat hv hhi).mp h1

end Cert.Embedding

end
-- ==== Proof.RefValue.lean ====
/- The reference's result, read at an index: where every index is in range its two row lookups are the rows the indices
   name. -/
module

public import proofs.«01_k».proof.Proof.Gen.ReferenceIdeal.Read
public import proofs.«01_k».proof.Proof.Spec
public import proofs.«01_k».proof.Proof.Gather
public import Idealize.ShloMosaic.Lib.StableHlo.Predicate

@[expose] public section

set_option maxRecDepth 16384

noncomputable section

open Idealize.ShloMosaic Idealize.ShloMosaic.StableHlo.Predicate

namespace Cert.ReferenceIdeal.Lookup

open Cert.ReferenceIdeal Cert.ReferenceIdeal.Gen Cert.ReferenceIdeal.Read Cert.Embedding

variable (x : FVec Ideal SX .f32) (td : FVec Ideal SDay .f32) (tw : FVec Ideal SWeek .f32) (time : IVec STime 32)

/-- The day indices the reference computes. -/
theorem day_at (b : Fin 64) (n : Fin 4096) : val_main_v7 (F := Ideal) x time (ix2 b n) = day x time b n := by
  pointwise [val_main_v7, val_main_v6, val_main_v5, val_main_v4, val_main_v3, val_main_v2, val_main_v1, val_main_v0, day]

/-- The week indices the reference computes. -/
theorem week_at (b : Fin 64) (n : Fin 4096) : val_main_v15 (F := Ideal) x (ix2 b n) = week x b n := by
  pointwise [val_main_v15, val_main_v14, val_main_v13, val_main_v12, val_main_v11, week]

/-- The wrapped day index of a node in range is the index. -/
theorem start_day (b : Fin 64) (n : Fin 4096) (h : (day x time b n).toNat < 288) :
    val_main_call0_v5 (F := Ideal) x time (ix3 b n 0) = day x time b n := by
  have hn : IntOp.cmpi CmpIPredicate.slt (day x time b n) 0#32 = 0#1 := not_slt_zero (by omega)
  pointwise [val_main_call0_v5, val_main_call0_v4, val_main_call0_v1, val_main_call0_v0, val_main_call0_c, day_at, hn]

/-- The bounds mask of the day lookup holds everywhere when every index is in range. -/
theorem mask_day (h : InRange x time) (i : S64x4096x1.Idx) : val_main_call0_v11 (F := Ideal) x time i = 1#1 := by
  obtain ⟨b, n, k, rfl⟩ : ∃ (b : Fin 64) (n : Fin 4096) (k : Fin 1), i = ix3 b n k := ⟨i 0, i 1, i 2, eq_ix3 i⟩
  obtain rfl : k = 0 := Subsingleton.elim _ _
  have hr := (h b n).1
  have hb := in_bounds (day x time b n) 287#32 (by decide) (show _ ≤ 287 by omega)
  pointwise [val_main_call0_v11, val_main_call0_v10, val_main_call0_v9, val_main_call0_v8, val_main_call0_c_1,
    val_main_call0_v7, val_main_call0_v6, val_main_call0_c_2, start_day x time b n hr, hb]

/-- The day lookup: the row the index names. -/
theorem take_day (h : InRange x time) (b : Fin 64) (n : Fin 4096) (f : Fin 128) :
    val_main_v8 (F := Ideal) x td time (ix3 b n f) = td (ix2 ⟨min (day x time b n).toNat 287, by omega⟩ f) := by
  have hr := (h b n).1
  have hm : val_main_call0_v12 (F := Ideal) x time (ix2 b n) = 1#1 := by
    unfold val_main_call0_v12
    rw [Host.reduce_eq_fold_single _ _ _ _ (by decide : S64x4096x1.Reduces [2] S64x4096)]
    exact fold_and_true _ _ fun k => mask_day x time h _
  have hg : val_main_call0_v13 (F := Ideal) x td time (ix3 b n f)
      = td (ix2 ⟨min (day x time b n).toNat 287, by omega⟩ f) := by
    unfold val_main_call0_v13
    refine (gather_row (by omega) _ _ _ b n f).trans (congrArg (fun r => td (ix2 r f)) (Fin.ext ?_))
    simp only [start_day x time b n hr, toInt_eq_toNat_of_lt (show (day x time b n).toNat < 2 ^ 31 by omega), Int.toNat_natCast]
  pointwise [val_main_v8, val_main_call0_v14, hm, hg]

/-- The wrapped week index of a node in range is the index. -/
theorem start_week (b : Fin 64) (n : Fin 4096) (h : (week x b n).toNat < 7) :
    val_main_call1_v5 (F := Ideal) x (ix3 b n 0) = week x b n := by
  have hn : IntOp.cmpi CmpIPredicate.slt (week x b n) 0#32 = 0#1 := not_slt_zero (by omega)
  pointwise [val_main_call1_v5, val_main_call1_v4, val_main_call1_v1, val_main_call1_v0, val_main_call1_c, week_at, hn]

/-- The bounds mask of the week lookup holds everywhere when every index is in range. -/
theorem mask_week (h : InRange x time) (i : S64x4096x1.Idx) : val_main_call1_v11 (F := Ideal) x i = 1#1 := by
  obtain ⟨b, n, k, rfl⟩ : ∃ (b : Fin 64) (n : Fin 4096) (k : Fin 1), i = ix3 b n k := ⟨i 0, i 1, i 2, eq_ix3 i⟩
  obtain rfl : k = 0 := Subsingleton.elim _ _
  have hr := (h b n).2
  have hb := in_bounds (week x b n) 6#32 (by decide) (show _ ≤ 6 by omega)
  pointwise [val_main_call1_v11, val_main_call1_v10, val_main_call1_v9, val_main_call1_v8, val_main_call1_c_1,
    val_main_call1_v7, val_main_call1_v6, val_main_call1_c_2, start_week x b n hr, hb]

/-- The week lookup: the row the index names. -/
theorem take_week (h : InRange x time) (b : Fin 64) (n : Fin 4096) (f : Fin 128) :
    val_main_v16 (F := Ideal) x tw (ix3 b n f) = tw (ix2 ⟨min (week x b n).toNat 6, by omega⟩ f) := by
  have hr := (h b n).2
  have hm : val_main_call1_v12 (F := Ideal) x (ix2 b n) = 1#1 := by
    unfold val_main_call1_v12
    rw [Host.reduce_eq_fold_single _ _ _ _ (by decide : S64x4096x1.Reduces [2] S64x4096)]
    exact fold_and_true _ _ fun k => mask_week x time h _
  have hg : val_main_call1_v13 (F := Ideal) x tw (ix3 b n f)
      = tw (ix2 ⟨min (week x b n).toNat 6, by omega⟩ f) := by
    unfold val_main_call1_v13
    refine (gather_row (by omega) _ _ _ b n f).trans (congrArg (fun r => tw (ix2 r f)) (Fin.ext ?_))
    simp only [start_week x b n hr, toInt_eq_toNat_of_lt (show (week x b n).toNat < 2 ^ 31 by omega), Int.toNat_natCast]
  pointwise [val_main_v16, val_main_call1_v14, hm, hg]

/-- THE REFERENCE'S RESULT, read at an index: the embedding. -/
theorem result (h : InRange x time) (b : Fin 64) (f : Fin 128) (n : Fin 4096) :
    val_main_v19 (F := Ideal) x td tw time (ix4 b f n 0) = emb x td tw time b f n := by
  pointwise [val_main_v19, val_main_v10, val_main_v9, val_main_v18, val_main_v17, take_day x td time h,
    take_week x tw time h, emb]

end Cert.ReferenceIdeal.Lookup

end
-- ==== Proof.Precondition.lean ====
/- What the precondition says: both indices of every batch entry and node name a row of their table. -/
module

public import proofs.«01_k».proof.Defs
public import proofs.«01_k».proof.Proof.Spec
public import proofs.«01_k».proof.Proof.Gather

@[expose] public section

set_option maxRecDepth 16384

noncomputable section

open Idealize.ShloMosaic

namespace Cert.Embedding

/-- The side conditions of the precondition's operations. -/
theorem preFacts : Cert.Pre_indices_in_range.Facts where
  slices_S64x12x4096x3_S64x1x4096x1_0_11_0_1 := by decide
  shapeCasts_S64x1x4096x1_S64x4096 := by decide
  bcast_S_S64x4096 := by decide
  slices_S64x12x4096x3_S64x1x4096x1_0_11_0_2 := by decide

/-- Where the precondition's bits are all one, every index is in range. -/
theorem inRange_of_pre (hf : Cert.Pre_indices_in_range.Facts) (x : FVec Ideal SX .f32) (td : FVec Ideal SDay .f32)
    (tw : FVec Ideal SWeek .f32) (time : IVec STime 32)
    (h : Cert.Pre_indices_in_range.fn (F := Ideal) x td tw time = fun _ => 1#1) : InRange x time := by
  intro b n
  have hbit := congrFun h (ix2 b n)
  have hbits : IntOp.andi
      (IntOp.andi (IntOp.cmpi CmpIPredicate.sge (day x time b n) 0#32) (IntOp.cmpi CmpIPredicate.slt (day x time b n) 288#32))
      (IntOp.andi (IntOp.cmpi CmpIPredicate.sge (week x b n) 0#32) (IntOp.cmpi CmpIPredicate.slt (week x b n) 7#32)) = 1#1 := by
    rw [← hbit]
    pointwise [Cert.Pre_indices_in_range.fn, day, week]
  obtain ⟨hd, hw⟩ := and_bits hbits
  exact ⟨lt_of_checks (by decide) hd, lt_of_checks (by decide) hw⟩

end Cert.Embedding

end
-- ==== Proof.lean ====
/- The certificate's proof: the frames, that the kernel read over exact values is the kernel's own text, and that the
   kernel's result equals the reference's where every index is in range. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelValue
public import proofs.«01_k».proof.Proof.RefValue
public import proofs.«01_k».proof.Proof.Precondition
public import Idealize.ShloMosaic.Lib.Claim
public import Idealize.ShloMosaic.Adequacy
public import Idealize.ShloMosaic.Init

@[expose] public section

noncomputable section

set_option maxRecDepth 16384

namespace Cert.Proof

open Idealize.ShloMosaic Idealize.SL.Sem

attribute [local instance] Cert.Embedding.preFacts

/-- The reference runs, its arguments end unchanged and every semaphore counter ends at zero. -/
theorem frame_reference : Cert.quiescent_ReferenceIdeal := by
  intro m g _
  refine θ_run_and ((θ_run _ _ _).mono (fun _ h c => (h c).2) (Cert.ReferenceIdeal.Value.run m g)) ?_
  exact (θ_run _ _ _).mono (fun r _ => sem_eq_zero_of_no_sems (by decide) r.2) (Cert.ReferenceIdeal.Value.run m g)

/-- The kernel and the reference end with equal results where every index is in range. -/
theorem algebraic : Cert.algebraic_KernelIdeal_ReferenceIdeal_pre_indices_in_range := by
  pair_intro
  · run_from Cert.KernelIdeal.Gen.run_main m g
    exacts [Cert.KernelIdeal.Gen.W_main_arg0 m _ c, Cert.KernelIdeal.Gen.W_main_arg1 m _ c,
      Cert.KernelIdeal.Gen.W_main_arg2 m _ c, Cert.KernelIdeal.Gen.W_main_arg3 m _ c]
  · refine (θ_run _ _ _).mono (fun r h c => ⟨(h c).1.trans ?_, (h c).2⟩) (Cert.ReferenceIdeal.Value.run m' g')
    rw [Cert.ReferenceIdeal.Read.val_main_v19_eq, (hagree c).1, (hagree c).2.1, (hagree c).2.2.1, (hagree c).2.2.2]
    have h' := Cert.Embedding.inRange_of_pre Cert.Embedding.preFacts _ _ _ _ (hpre c)
    funext i
    have hi : i = ix4 (i 0) (i 1) (i 2) (0 : Fin 1) := by
      funext k
      fin_cases k
      exacts [rfl, rfl, rfl, Subsingleton.elim (α := Fin 1) _ _]
    rw [hi]
    exact (Cert.ReferenceIdeal.Lookup.result _ _ _ _ h' (i 0) (i 1) (i 2)).trans
      (Cert.KernelIdeal.Block.result m c h' (i 0) (i 1) (i 2)).symm

/-- The certificate: the programs' facts, the three frames, that the kernel over exact values is the kernel's own text, and
    that its result is the reference's. -/
theorem claim : Cert.Claim :=
  ⟨Cert.Kernel.Gen.facts, Cert.KernelIdeal.Gen.facts, Cert.ReferenceIdeal.Gen.facts, Cert.Embedding.preFacts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial,
    algebraic⟩

end Cert.Proof

end
